-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S720x256 : Shape := ⟨2, ![720, 256]⟩
abbrev S720 : Shape := ⟨1, ![720]⟩
abbrev S36x256 : Shape := ⟨2, ![36, 256]⟩
abbrev S36 : Shape := ⟨1, ![36]⟩
abbrev S8x64x64x256 : Shape := ⟨4, ![8, 64, 64, 256]⟩
abbrev S32768x256 : Shape := ⟨2, ![32768, 256]⟩
abbrev S32768x720 : Shape := ⟨2, ![32768, 720]⟩
abbrev S8x36x64x64 : Shape := ⟨4, ![8, 36, 64, 64]⟩
abbrev S4096x256 : Shape := ⟨2, ![4096, 256]⟩
abbrev S4096x720 : Shape := ⟨2, ![4096, 720]⟩
abbrev S1x36x64x64 : Shape := ⟨4, ![1, 36, 64, 64]⟩
abbrev S1x720 : Shape := ⟨2, ![1, 720]⟩
abbrev S36x4096 : Shape := ⟨2, ![36, 4096]⟩
abbrev S36x1 : Shape := ⟨2, ![36, 1]⟩
abbrev S36x1x64x64 : Shape := ⟨4, ![36, 1, 64, 64]⟩
abbrev S8x64x64x720 : Shape := ⟨4, ![8, 64, 64, 720]⟩
abbrev S8x720x64x64 : Shape := ⟨4, ![8, 720, 64, 64]⟩

abbrev nBuf : Space → Nat
  | .hbm => 11
  | .vmem => 10
  | .smem => 0
  | _ => 0

abbrev bufTy : (tb : Table) → Fin (tcTables nBuf tb) → BufTy
  | .hbm, ⟨0, _⟩ => ⟨S8x256x64x64, .f32⟩
  | .hbm, ⟨1, _⟩ => ⟨S720x256, .f32⟩
  | .hbm, ⟨2, _⟩ => ⟨S720, .f32⟩
  | .hbm, ⟨3, _⟩ => ⟨S36x256, .f32⟩
  | .hbm, ⟨4, _⟩ => ⟨S36, .f32⟩
  | .hbm, ⟨5, _⟩ => ⟨S8x64x64x256, .f32⟩
  | .hbm, ⟨6, _⟩ => ⟨S32768x256, .f32⟩
  | .hbm, ⟨7, _⟩ => ⟨S32768x720, .f32⟩
  | .hbm, ⟨8, _⟩ => ⟨S8x36x64x64, .f32⟩
  | .hbm, ⟨9, _⟩ => ⟨S8x64x64x720, .f32⟩
  | .hbm, ⟨10, _⟩ => ⟨S8x720x64x64, .f32⟩
  | .local _ .vmem, ⟨0, _⟩ => ⟨S4096x256, .f32⟩
  | .local _ .vmem, ⟨1, _⟩ => ⟨S4096x256, .f32⟩
  | .local _ .vmem, ⟨2, _⟩ => ⟨S720x256, .f32⟩
  | .local _ .vmem, ⟨3, _⟩ => ⟨S720, .f32⟩
  | .local _ .vmem, ⟨4, _⟩ => ⟨S36x256, .f32⟩
  | .local _ .vmem, ⟨5, _⟩ => ⟨S36, .f32⟩
  | .local _ .vmem, ⟨6, _⟩ => ⟨S4096x720, .f32⟩
  | .local _ .vmem, ⟨7, _⟩ => ⟨S4096x720, .f32⟩
  | .local _ .vmem, ⟨8, _⟩ => ⟨S1x36x64x64, .f32⟩
  | .local _ .vmem, ⟨9, _⟩ => ⟨S1x36x64x64, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S720x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S720 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x720 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x36x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x256x64x64 : Shape := ⟨4, ![8, 256, 64, 64]⟩
abbrev S720x256 : Shape := ⟨2, ![720, 256]⟩
abbrev S720 : Shape := ⟨1, ![720]⟩
abbrev S36x256 : Shape := ⟨2, ![36, 256]⟩
abbrev S36 : Shape := ⟨1, ![36]⟩
abbrev S720x8x64x64 : Shape := ⟨4, ![720, 8, 64, 64]⟩
abbrev S8x720x64x64 : Shape := ⟨4, ![8, 720, 64, 64]⟩
abbrev S1x720x1x1 : Shape := ⟨4, ![1, 720, 1, 1]⟩
abbrev S36x8x64x64 : Shape := ⟨4, ![36, 8, 64, 64]⟩
abbrev S8x36x64x64 : Shape := ⟨4, ![8, 36, 64, 64]⟩
abbrev S1x36x1x1 : Shape := ⟨4, ![1, 36, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S720x256, .f32⟩
  | .hbm, ⟨2, _⟩ => ⟨S720, .f32⟩
  | .hbm, ⟨3, _⟩ => ⟨S36x256, .f32⟩
  | .hbm, ⟨4, _⟩ => ⟨S36, .f32⟩
  | .hbm, ⟨5, _⟩ => ⟨S720x8x64x64, .f32⟩
  | .hbm, ⟨6, _⟩ => ⟨S8x720x64x64, .f32⟩
  | .hbm, ⟨7, _⟩ => ⟨S1x720x1x1, .f32⟩
  | .hbm, ⟨8, _⟩ => ⟨S8x720x64x64, .f32⟩
  | .hbm, ⟨9, _⟩ => ⟨S8x720x64x64, .f32⟩
  | .hbm, ⟨10, _⟩ => ⟨S36x8x64x64, .f32⟩
  | .hbm, ⟨11, _⟩ => ⟨S8x36x64x64, .f32⟩
  | .hbm, ⟨12, _⟩ => ⟨S1x36x1x1, .f32⟩
  | .hbm, ⟨13, _⟩ => ⟨S8x36x64x64, .f32⟩
  | .hbm, ⟨14, _⟩ => ⟨S8x36x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Spec.lean ====
/-
  The mathematics of the anchor head, over the extended reals: a 1×1 convolution is, at every pixel, a linear map of the
  channels and a bias.
-/
module

public import proofs.«01_k».proof.Defs
public import Idealize.ShloMosaic.Lib.Pointwise

@[expose] public section

noncomputable section

namespace Cert.AnchorHead

open Idealize.ShloMosaic

/-- A 1×1 convolution with `o` output channels of 8 feature maps with 256 channels and 64×64 pixels: at image `n`, output
    channel `k` and pixel `(h, w)` the inner product of row `k` of the weights with the pixel's channels, plus the bias. -/
def conv (o : Nat) (feats : FVec Ideal ⟨4, ![8, 256, 64, 64]⟩ .f32) (W : FVec Ideal ⟨2, ![o, 256]⟩ .f32)
    (b : FVec Ideal ⟨1, ![o]⟩ .f32) : FVec Ideal ⟨4, ![8, o, 64, 64]⟩ .f32 :=
  fun j => (∑ c : Fin 256, W (ix2 (j 1) c) * feats (ix4 (j 0) c (j 2) (j 3))) + b (ix1 (j 1))

end Cert.AnchorHead

end
-- ==== Proof.RefValue.lean ====
/-
  What the reference computes: each of its two results is the 1×1 convolution of `Spec`.
-/
module

public import proofs.«01_k».proof.Proof.Spec
public import proofs.«01_k».proof.Proof.Gen.ReferenceIdeal.Run

@[expose] public section

noncomputable section

namespace Cert.AnchorHead

open Idealize.ShloMosaic Cert.ReferenceIdeal Cert.ReferenceIdeal.Gen

/-- The reference's class scores are the convolution with 720 output channels. -/
theorem ref_cls (x : FVec Ideal S8x256x64x64 .f32) (W : FVec Ideal S720x256 .f32) (b : FVec Ideal S720 .f32) :
    addf (transpose S8x720x64x64 [1, 0, 2, 3]
        (Host.dotGeneral dot_S720x256_S8x256x64x64_S720x8x64x64_1_1_0_023_n_n none W x)
        Facts₀.transposes_S720x8x64x64_S8x720x64x64_1_0_2_3)
      (broadcastInDim S8x720x64x64 ![0, 1, 2, 3] Facts₀.bcast_S1x720x1x1_S8x720x64x64_0_1_2_3
        (broadcastInDim S1x720x1x1 ![1] Facts₀.bcast_S720_S1x720x1x1_1 b))
      = conv 720 x W b := by
  funext j
  pointwise [conv]

/-- The reference's box predictions are the convolution with 36 output channels. -/
theorem ref_reg (x : FVec Ideal S8x256x64x64 .f32) (W : FVec Ideal S36x256 .f32) (b : FVec Ideal S36 .f32) :
    addf (transpose S8x36x64x64 [1, 0, 2, 3]
        (Host.dotGeneral dot_S36x256_S8x256x64x64_S36x8x64x64_1_1_0_023_n_n none W x)
        Facts₀.transposes_S36x8x64x64_S8x36x64x64_1_0_2_3)
      (broadcastInDim S8x36x64x64 ![0, 1, 2, 3] Facts₀.bcast_S1x36x1x1_S8x36x64x64_0_1_2_3
        (broadcastInDim S1x36x1x1 ![1] Facts₀.bcast_S36_S1x36x1x1_1 b))
      = conv 36 x W b := by
  funext j
  pointwise [conv]

end Cert.AnchorHead

end
-- ==== Proof.Block.lean ====
/-
  What one grid point's body computes of its blocks, over the extended reals: two matrix products with a bias each.
-/
module

public import proofs.«01_k».proof.Proof.Spec
public import proofs.«01_k».proof.Proof.Gen.KernelIdeal.Skeleton

@[expose] public section

noncomputable section

namespace Cert.AnchorHead

open Idealize.ShloMosaic Cert.KernelIdeal Cert.KernelIdeal.Gen

/-- The first payload: at pixel row `p` and class channel `k` the inner product of the pixel's channels with the weights'
    row, plus the bias. -/
theorem pay_cls (x : FVec Ideal S4096x256 .f32) (W : FVec Ideal S720x256 .f32) (b : FVec Ideal S720 .f32) (y : S4096x720.Idx) :
    k0_pay2 x W b y = (∑ c : Fin 256, x (ix2 (y 0) c) * W (ix2 (y 1) c)) + b (ix1 (y 1)) := by
  pointwise [k0_pay2, k0_pay1]

/-- The second payload, already laid out as feature maps: at box channel `k` and pixel `(h, w)` the inner product of the
    weights' row with the channels of pixel row `64 h + w`, plus the bias. -/
theorem pay_reg (x : FVec Ideal S4096x256 .f32) (W : FVec Ideal S36x256 .f32) (b : FVec Ideal S36 .f32) (y : S1x36x64x64.Idx) :
    k0_pay3 x W b y
      = (∑ c : Fin 256, W (ix2 (y 1) c) * x (ix2 ⟨(y 2 : Nat) * 64 + (y 3 : Nat), by
            have h2 : (y 2 : Nat) < 64 := (y 2).isLt
            have h3 : (y 3 : Nat) < 64 := (y 3).isLt
            omega⟩ c)) + b (ix1 (y 1)) := by
  pointwise [k0_pay3, k0_pay1]

end Cert.AnchorHead

end
-- ==== Proof.Arrays.lean ====
/-
  What the kernel's two result arrays hold after the whole grid, as functions of the arrays that the call was given.
-/
module

public import proofs.«01_k».proof.Proof.Block
public import proofs.«01_k».proof.Proof.Gen.KernelIdeal.Frame
public import Idealize.ShloMosaic.Lib.Pipeline.ValueKit.Geometry
public import Idealize.ShloMosaic.Lib.Pipeline.ValueKit.Acc

@[expose] public section

noncomputable section

namespace Cert.AnchorHead

open Idealize.ShloMosaic Idealize.ShloMosaic.TcCoe Idealize.SL.Sem Cert.KernelIdeal Cert.KernelIdeal.Gen

/-- The class array of a list of pixels: row by row the product with the weights, plus the bias. -/
def clsRows (X : FVec Ideal S32768x256 .f32) (W : FVec Ideal S720x256 .f32) (b : FVec Ideal S720 .f32) :
    FVec Ideal S32768x720 .f32 :=
  fun i => (∑ c : Fin 256, X (ix2 (i 0) c) * W (ix2 (i 1) c)) + b (ix1 (i 1))

/-- The row of pixel `(h, w)` of image `n` in the list of pixels. -/
def pixel (n : Fin 8) (h w : Fin 64) : Fin 32768 := ⟨(n : Nat) * 4096 + ((h : Nat) * 64 + (w : Nat)), by omega⟩

/-- The box array of a list of pixels, as feature maps. -/
def regMaps (X : FVec Ideal S32768x256 .f32) (W : FVec Ideal S36x256 .f32) (b : FVec Ideal S36 .f32) :
    FVec Ideal S8x36x64x64 .f32 :=
  fun i => (∑ c : Fin 256, W (ix2 (i 1) c) * X (ix2 (pixel (i 0) (i 2) (i 3)) c)) + b (ix1 (i 1))

variable (m : (ℓ : Loc nD τ sig) → Buf (Elt Ideal) ℓ)

/-! ## The block indices: point `t` works on the pixels of image `t` -/

/-- The pixels: point `t` reads the `t`-th block of 4096 rows. -/
theorem index_x : ∀ t : Fin cfg0.N, win0_0.index t = ![t.val, 0] := (by decide +kernel : ∀ t : Fin grid0.N, _)
/-- The class weights: every point reads them whole. -/
theorem index_wc : ∀ t : Fin cfg0.N, win0_1.index t = ![0, 0] := (by decide +kernel : ∀ t : Fin grid0.N, _)
/-- The class bias: every point reads it whole. -/
theorem index_bc : ∀ t : Fin cfg0.N, win0_2.index t = ![0] := (by decide +kernel : ∀ t : Fin grid0.N, _)
/-- The box weights: every point reads them whole. -/
theorem index_wr : ∀ t : Fin cfg0.N, win0_3.index t = ![0, 0] := (by decide +kernel : ∀ t : Fin grid0.N, _)
/-- The box bias: every point reads it whole. -/
theorem index_br : ∀ t : Fin cfg0.N, win0_4.index t = ![0] := (by decide +kernel : ∀ t : Fin grid0.N, _)
/-- The class array: point `t` writes the `t`-th block of 4096 rows. -/
theorem index_cls : ∀ t : Fin cfg0.N, win0_5.index t = ![t.val, 0] := (by decide +kernel : ∀ t : Fin grid0.N, _)
/-- The box array: point `t` writes the maps of image `t`. -/
theorem index_reg : ∀ t : Fin cfg0.N, win0_6.index t = ![t.val, 0, 0, 0] := (by decide +kernel : ∀ t : Fin grid0.N, _)

/-- After the run the class array holds `clsRows` of the pixels, the class weights and their bias. -/
theorem final_cls (c : Dev nD) :
    (dats m 0 c).arrAt 5 cfg0.N = clsRows (V m c main_v1) (V m c main_arg1) (V m c main_arg2) := by
  refine (dats m 0 c).arrAt_eq_of_covers 5 _ (by decide +kernel) fun t hf y => ?_
  blk_simp
  rw [after0_5]
  frame_out
  rw [pay_cls]
  unfold clsRows
  blk_simp [iblk]
  refine congrArg₂ (· + ·) (Finset.sum_congr rfl fun k _ => congrArg₂ (· * ·) (congrArg _ ?_) (congrArg _ ?_)) (congrArg _ ?_)
  · blk_ext [index_x, index_cls]
  · blk_ext [index_wc, index_cls]
  · blk_ext [index_bc, index_cls]

/-- After the run the box array holds `regMaps` of the pixels, the box weights and their bias. -/
theorem final_reg (c : Dev nD) :
    (dats m 0 c).arrAt 6 cfg0.N = regMaps (V m c main_v1) (V m c main_arg3) (V m c main_arg4) := by
  refine (dats m 0 c).arrAt_eq_of_covers 6 _ (by decide +kernel) fun t hf y => ?_
  blk_simp
  rw [after0_6]
  frame_out
  rw [pay_reg]
  unfold regMaps
  blk_simp [iblk]
  refine congrArg₂ (· + ·) (Finset.sum_congr rfl fun k _ => congrArg₂ (· * ·) (congrArg _ ?_) (congrArg _ ?_)) (congrArg _ ?_)
  · blk_ext [index_wr, index_reg]
  · blk_ext [index_x, index_reg, pixel]
  · blk_ext [index_br, index_reg]

end Cert.AnchorHead

end
-- ==== Proof.KernelValue.lean ====
/-
  The kernel's run with its values: both results are the 1×1 convolutions of `Spec`, whatever the arguments hold.
-/
module

public import proofs.«01_k».proof.Proof.Arrays
public import Idealize.ShloMosaic.Lib.StableHlo.Run

@[expose] public section

noncomputable section

namespace Cert.AnchorHead

open Idealize.ShloMosaic Idealize.ShloMosaic.TcCoe Idealize.SL.Sem Cert.KernelIdeal Cert.KernelIdeal.Gen

/-- The list of pixels that the host hands to the call: channels last, then all images' rows one after another. -/
def pixels (feats : FVec Ideal S8x256x64x64 .f32) : FVec Ideal S32768x256 .f32 :=
  shapeCast S32768x256 (transpose S8x64x64x256 [0, 2, 3, 1] feats Facts₀.transposes_S8x256x64x64_S8x64x64x256_0_2_3_1)
    Facts₀.shapeCasts_S8x64x64x256_S32768x256

/-- Row `pixel n h w` of the list of pixels holds the channels of pixel `(h, w)` of image `n`. -/
theorem pixels_apply (feats : FVec Ideal S8x256x64x64 .f32) (n : Fin 8) (h w : Fin 64) (c : Fin 256) :
    pixels feats (ix2 (pixel n h w) c) = feats (ix4 n c h w) := by
  pointwise [pixels, pixel]

/-- The box array is the convolution with 36 output channels. -/
theorem regMaps_pixels (feats : FVec Ideal S8x256x64x64 .f32) (W : FVec Ideal S36x256 .f32) (b : FVec Ideal S36 .f32) :
    regMaps (pixels feats) W b = conv 36 feats W b := by
  funext i
  refine congrArg (· + b (ix1 (i 1))) (Finset.sum_congr rfl fun k _ => ?_)
  exact congrArg (W (ix2 (i 1) k) * ·) (pixels_apply feats (i 0) (i 2) (i 3) k)

/-- The class array, read as feature maps with the channels last and then with the channels second, is the convolution
    with 720 output channels. -/
theorem clsRows_pixels (feats : FVec Ideal S8x256x64x64 .f32) (W : FVec Ideal S720x256 .f32) (b : FVec Ideal S720 .f32) :
    transpose S8x720x64x64 [0, 3, 1, 2]
        (shapeCast S8x64x64x720 (clsRows (pixels feats) W b) Facts₀.shapeCasts_S32768x720_S8x64x64x720)
        Facts₀.transposes_S8x64x64x720_S8x720x64x64_0_3_1_2
      = conv 720 feats W b := by
  funext i
  pointwise [clsRows, conv]
  refine congrArg (· + b (ix1 (i 1))) (Finset.sum_congr rfl fun k _ => ?_)
  rw [mul_comm]
  refine congrArg (W (ix2 (i 1) k) * ·) (Eq.trans (congrArg (fun p => pixels feats (ix2 p k)) (Fin.ext ?_))
    (pixels_apply feats (i 0) (i 2) (i 3) k))
  exact Nat.add_assoc _ _ _

variable (m : (ℓ : Loc nD τ sig) → Buf (Elt Ideal) ℓ) (ρ : Dev nD → PrngReg)

/-- The call's first operand is the list of pixels of the feature maps as launched. -/
theorem V_pixels (c : Dev nD) : V m c main_v1 = pixels (m ((c : Thread nD τ).loc main_arg0)) := by
  unfold pixels V V0
  simp only [List.flatten_cons, List.flatten_nil, List.append_nil]
  after_results
  rfl

/-- After the lines behind the call the first result is the class array, reshaped and transposed. -/
theorem tail_cls (c : Dev nD) :
    Pipeline.afterTail₀ cfgs (dats m) 0 (V0 m) [hostOps1] c main_v4
      = transpose S8x720x64x64 [0, 3, 1, 2]
          (shapeCast S8x64x64x720 ((dats m 0 c).arrAt 5 cfg0.N) Facts₀.shapeCasts_S32768x720_S8x64x64x720)
          Facts₀.transposes_S8x64x64x720_S8x720x64x64_0_3_1_2 := by
  unfold Pipeline.afterTail₀
  rw [← Pipeline.withArrays_arr spec0 launch0.win.arr_inj c (V0 m c) (fun w => (dats m 0 c).arrAt w cfg0.N) 5]
  simp only [List.flatten_cons, List.flatten_nil, List.append_nil]
  after_results
  rfl

/-- Every weakly fair execution of the kernel ends with both results at the convolutions of the arguments, and the
    arguments unchanged. -/
theorem kernel_run : θ_run (defs (F := Ideal)) (onTc (τ := τ) (main (F := Ideal))) ⟨m, fun _ => 0, ρ⟩ (fun r => ∀ c : Dev nD,
    r.2.mem ((c.tc : Thread nD τ).loc main_v4)
        = conv 720 (m ((c : Thread nD τ).loc main_arg0)) (m ((c : Thread nD τ).loc main_arg1)) (m ((c : Thread nD τ).loc main_arg2))
    ∧ r.2.mem ((c.tc : Thread nD τ).loc main_v2_1)
        = conv 36 (m ((c : Thread nD τ).loc main_arg0)) (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  have hargs := unchanged (F := Ideal) m ρ
  refine (θ_run defs _ _).mono (fun r h c => ⟨?_, ?_, h.2 c⟩) (θ_run_and (run_main (F := Ideal) m ρ) hargs)
  · refine ((h.1 c).2 main_v4 (Pipeline.mem_restRefs_of main_v4 (by decide) (by decide))).trans ?_
    rw [tail_cls, final_cls, V_pixels, V_main_arg1, V_main_arg2, clsRows_pixels]
  · refine ((h.1 c).1 6).trans ?_
    rw [final_reg, V_pixels, V_main_arg3, V_main_arg4, regMaps_pixels]

end Cert.AnchorHead

end
-- ==== Proof.lean ====
/-
  The certificate of the anchor head: the kernel's and the reference's frames, and the equality of their results over the
  extended reals. The mathematics is in `Spec`, the reference's values in `RefValue`, the kernel's in `Block` (one grid
  point), `Arrays` (the whole grid) and `KernelValue` (the run with the host's lines around the call).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged and every semaphore counter at zero: it declares no semaphore. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over the extended reals the kernel and the reference, from equal arguments, end with equal results: both hold the
    two convolutions of `Spec`. -/
theorem values_agree : Cert.algebraic_KernelIdeal_ReferenceIdeal := by
  intro m g m' g' _ hagree
  refine ⟨fun c => AnchorHead.conv 720 (m ((c.tc : Thread _ _).loc Cert.KernelIdeal.main_arg0))
      (m ((c.tc : Thread _ _).loc Cert.KernelIdeal.main_arg1)) (m ((c.tc : Thread _ _).loc Cert.KernelIdeal.main_arg2)),
    fun c => AnchorHead.conv 36 (m ((c.tc : Thread _ _).loc Cert.KernelIdeal.main_arg0))
      (m ((c.tc : Thread _ _).loc Cert.KernelIdeal.main_arg3)) (m ((c.tc : Thread _ _).loc Cert.KernelIdeal.main_arg4)),
    AnchorHead.kernel_run m g, ?_⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨h0, h1, h2, -, -⟩ := hagree c
    rw [h0, h1, h2]
    exact AnchorHead.ref_cls _ _ _
  · obtain ⟨h0, -, -, h3, h4⟩ := hagree c
    rw [h0, h3, h4]
    exact AnchorHead.ref_reg _ _ _

/-- The certificate: the three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, values_agree⟩

end Cert.Proof

end
